-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S1024x8192 : Shape := ⟨2, ![1024, 8192]⟩
abbrev S8192 : Shape := ⟨1, ![8192]⟩
abbrev S2x4096x8192 : Shape := ⟨3, ![2, 4096, 8192]⟩
abbrev S1x8192 : Shape := ⟨2, ![1, 8192]⟩
abbrev S1024x8x8192 : Shape := ⟨3, ![1024, 8, 8192]⟩
abbrev S2x1x4096 : Shape := ⟨3, ![2, 1, 4096]⟩
abbrev S1x512x1024 : Shape := ⟨3, ![1, 512, 1024]⟩
abbrev S1x512x8192 : Shape := ⟨3, ![1, 512, 8192]⟩
abbrev S64x8x8192 : Shape := ⟨3, ![64, 8, 8192]⟩
abbrev S1x1x512 : Shape := ⟨3, ![1, 1, 512]⟩
abbrev S512x1 : Shape := ⟨2, ![512, 1]⟩
abbrev S512x1024 : Shape := ⟨2, ![512, 1024]⟩
abbrev S512 : Shape := ⟨1, ![512]⟩
abbrev S512x256 : Shape := ⟨2, ![512, 256]⟩
abbrev S512x128 : Shape := ⟨2, ![512, 128]⟩
abbrev S128x512 : Shape := ⟨2, ![128, 512]⟩
abbrev S1x512 : Shape := ⟨2, ![1, 512]⟩
abbrev S1024x512 : Shape := ⟨2, ![1024, 512]⟩
abbrev S512x512 : Shape := ⟨2, ![512, 512]⟩
abbrev S1x512x512 : Shape := ⟨3, ![1, 512, 512]⟩
abbrev S64x8x512 : Shape := ⟨3, ![64, 8, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x1024, .bf16⟩
  | .hbm, ⟨1, _⟩ => ⟨S1024x8192, .fp8e4m3⟩
  | .hbm, ⟨2, _⟩ => ⟨S8192, .f32⟩
  | .hbm, ⟨3, _⟩ => ⟨S2x4096x8192, .bf16⟩
  | .hbm, ⟨4, _⟩ => ⟨S1x8192, .f32⟩
  | .hbm, ⟨5, _⟩ => ⟨S1024x8x8192, .bf16⟩
  | .hbm, ⟨6, _⟩ => ⟨S2x4096x1024, .fp8e4m3⟩
  | .hbm, ⟨7, _⟩ => ⟨S2x1x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x8192, .fp8e4m3⟩
  | .local _ .vmem, ⟨3, _⟩ => ⟨S1x8192, .f32⟩
  | .local _ .vmem, ⟨4, _⟩ => ⟨S1x512x8192, .bf16⟩
  | .local _ .vmem, ⟨5, _⟩ => ⟨S1x512x8192, .bf16⟩
  | .local _ .vmem, ⟨6, _⟩ => ⟨S64x8x8192, .bf16⟩
  | .local _ .vmem, ⟨7, _⟩ => ⟨S64x8x8192, .bf16⟩
  | .local _ .vmem, ⟨8, _⟩ => ⟨S1x512x1024, .fp8e4m3⟩
  | .local _ .vmem, ⟨9, _⟩ => ⟨S1x512x1024, .fp8e4m3⟩
  | .local _ .vmem, ⟨10, _⟩ => ⟨S1x1x512, .f32⟩
  | .local _ .vmem, ⟨11, _⟩ => ⟨S1x1x512, .f32⟩
  | .local _ .vmem, ⟨12, _⟩ => ⟨S512x1, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c8192_i32 : BitVec 32 := 8192#32
  let v6 : BitVec 32 := Scalar.muli arg1 c8192_i32
  let c0_i32_5 : BitVec 32 := 0#32
  let v7 : BitVec 32 := Scalar.addi v6 c0_i32_5
  v7
def k0_off1 (i : grid0.Coords) (c0_i32_5 : BitVec 32) : Fin 2 → Nat :=
  let c0_6 : Index := 0#32
  let arg1 : BitVec 32 := BitVec.ofNat 32 (i 1).val
  let c8192_i32 : BitVec 32 := 8192#32
  let v6 : BitVec 32 := Scalar.muli arg1 c8192_i32
  let v7 : BitVec 32 := Scalar.addi v6 c0_i32_5
  let v8 : BitVec 32 := v7
  let v9 : Index := Scalar.indexCast v8
  ![0, v9.toNat]
def k0_mult2 (i : grid0.Coords) : BitVec 32 :=
  let arg1 : BitVec 32 := BitVec.ofNat 32 (i 1).val
  let c8192_i32_15 : BitVec 32 := 8192#32
  let v25 : BitVec 32 := Scalar.muli arg1 c8192_i32_15
  let c512_i32 : BitVec 32 := 512#32
  let v26 : BitVec 32 := Scalar.addi v25 c512_i32
  v26
def k0_mult3 (i : grid0.Coords) : BitVec 32 :=
  let arg1 : BitVec 32 := BitVec.ofNat 32 (i 1).val
  let c8192_i32_25 : BitVec 32 := 8192#32
  let v44 : BitVec 32 := Scalar.muli arg1 c8192_i32_25
  let c1024_i32 : BitVec 32 := 1024#32
  let v45 : BitVec 32 := Scalar.addi v44 c1024_i32
  v45
def k0_mult4 (i : grid0.Coords) : BitVec 32 :=
  let arg1 : BitVec 32 := BitVec.ofNat 32 (i 1).val
  let c8192_i32_35 : BitVec 32 := 8192#32
  let v63 : BitVec 32 := Scalar.muli arg1 c8192_i32_35
  let c1536_i32 : BitVec 32 := 1536#32
  let v64 : BitVec 32 := Scalar.addi v63 c1536_i32
  v64
def k0_mult5 (i : grid0.Coords) : BitVec 32 :=
  let arg1 : BitVec 32 := BitVec.ofNat 32 (i 1).val
  let c8192_i32_45 : BitVec 32 := 8192#32
  let v82 : BitVec 32 := Scalar.muli arg1 c8192_i32_45
  let c2048_i32 : BitVec 32 := 2048#32
  let v83 : BitVec 32 := Scalar.addi v82 c2048_i32
  v83
def k0_mult6 (i : grid0.Coords) : BitVec 32 :=
  let arg1 : BitVec 32 := BitVec.ofNat 32 (i 1).val
  let c8192_i32_55 : BitVec 32 := 8192#32
  let v101 : BitVec 32 := Scalar.muli arg1 c8192_i32_55
  let c2560_i32 : BitVec 32 := 2560#32
  let v102 : BitVec 32 := Scalar.addi v101 c2560_i32
  v102
def k0_mult7 (i : grid0.Coords) : BitVec 32 :=
  let arg1 : BitVec 32 := BitVec.ofNat 32 (i 1).val
  let c8192_i32_65 : BitVec 32 := 8192#32
  let v120 : BitVec 32 := Scalar.muli arg1 c8192_i32_65
  let c3072_i32 : BitVec 32 := 3072#32
  let v121 : BitVec 32 := Scalar.addi v120 c3072_i32
  v121
def k0_mult8 (i : grid0.Coords) : BitVec 32 :=
  let arg1 : BitVec 32 := BitVec.ofNat 32 (i 1).val
  let c8192_i32_75 : BitVec 32 := 8192#32
  let v139 : BitVec 32 := Scalar.muli arg1 c8192_i32_75
  let c3584_i32 : BitVec 32 := 3584#32
  let v140 : BitVec 32 := Scalar.addi v139 c3584_i32
  v140
def k0_mult9 (i : grid0.Coords) : BitVec 32 :=
  let arg1 : BitVec 32 := BitVec.ofNat 32 (i 1).val
  let c8192_i32_85 : BitVec 32 := 8192#32
  let v158 : BitVec 32 := Scalar.muli arg1 c8192_i32_85
  let c4096_i32 : BitVec 32 := 4096#32
  let v159 : BitVec 32 := Scalar.addi v158 c4096_i32
  v159
def k0_mult10 (i : grid0.Coords) : BitVec 32 :=
  let arg1 : BitVec 32 := BitVec.ofNat 32 (i 1).val
  let c8192_i32_95 : BitVec 32 := 8192#32
  let v177 : BitVec 32 := Scalar.muli arg1 c8192_i32_95
  let c4608_i32 : BitVec 32 := 4608#32
  let v178 : BitVec 32 := Scalar.addi v177 c4608_i32
  v178
def k0_mult11 (i : grid0.Coords) : BitVec 32 :=
  let arg1 : BitVec 32 := BitVec.ofNat 32 (i 1).val
  let c8192_i32_105 : BitVec 32 := 8192#32
  let v196 : BitVec 32 := Scalar.muli arg1 c8192_i32_105
  let c5120_i32 : BitVec 32 := 5120#32
  let v197 : BitVec 32 := Scalar.addi v196 c5120_i32
  v197
def k0_mult12 (i : grid0.Coords) : BitVec 32 :=
  let arg1 : BitVec 32 := BitVec.ofNat 32 (i 1).val
  let c8192_i32_115 : BitVec 32 := 8192#32
  let v215 : BitVec 32 := Scalar.muli arg1 c8192_i32_115
  let c5632_i32 : BitVec 32 := 5632#32
  let v216 : BitVec 32 := Scalar.addi v215 c5632_i32
  v216
def k0_mult13 (i : grid0.Coords) : BitVec 32 :=
  let arg1 : BitVec 32 := BitVec.ofNat 32 (i 1).val
  let c8192_i32_125 : BitVec 32 := 8192#32
  let v234 : BitVec 32 := Scalar.muli arg1 c8192_i32_125
  let c6144_i32 : BitVec 32 := 6144#32
  let v235 : BitVec 32 := Scalar.addi v234 c6144_i32
  v235
def k0_mult14 (i : grid0.Coords) : BitVec 32 :=
  let arg1 : BitVec 32 := BitVec.ofNat 32 (i 1).val
  let c8192_i32_135 : BitVec 32 := 8192#32
  let v253 : BitVec 32 := Scalar.muli arg1 c8192_i32_135
  let c6656_i32 : BitVec 32 := 6656#32
  let v254 : BitVec 32 := Scalar.addi v253 c6656_i32
  v254
def k0_mult15 (i : grid0.Coords) : BitVec 32 :=
  let arg1 : BitVec 32 := BitVec.ofNat 32 (i 1).val
  let c8192_i32_145 : BitVec 32 := 8192#32
  let v272 : BitVec 32 := Scalar.muli arg1 c8192_i32_145
  let c7168_i32 : BitVec 32 := 7168#32
  let v273 : BitVec 32 := Scalar.addi v272 c7168_i32
  v273
def k0_mult16 (i : grid0.Coords) : BitVec 32 :=
  let arg1 : BitVec 32 := BitVec.ofNat 32 (i 1).val
  let c8192_i32_155 : BitVec 32 := 8192#32
  let v291 : BitVec 32 := Scalar.muli arg1 c8192_i32_155
  let c7680_i32 : BitVec 32 := 7680#32
  let v292 : BitVec 32 := Scalar.addi v291 c7680_i32
  v292
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x4096x1024 : Shape := ⟨3, ![2, 4096, 1024]⟩
abbrev S1024x8192 : Shape := ⟨2, ![1024, 8192]⟩
abbrev S8192 : Shape := ⟨1, ![8192]⟩
abbrev S2x4096x8192 : Shape := ⟨3, ![2, 4096, 8192]⟩
abbrev S1x8192 : Shape := ⟨2, ![1, 8192]⟩
abbrev S1024x8x8192 : Shape := ⟨3, ![1024, 8, 8192]⟩
abbrev S2x1x4096 : Shape := ⟨3, ![2, 1, 4096]⟩
abbrev S2x4096 : Shape := ⟨2, ![2, 4096]⟩
abbrev S2x4096x1 : Shape := ⟨3, ![2, 4096, 1]⟩
abbrev S8192x1024 : Shape := ⟨2, ![8192, 1024]⟩
abbrev S8192x8192 : Shape := ⟨2, ![8192, 8192]⟩
abbrev S8192x1 : Shape := ⟨2, ![8192, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S1024x8192, .fp8e4m3⟩
  | .hbm, ⟨2, _⟩ => ⟨S8192, .f32⟩
  | .hbm, ⟨3, _⟩ => ⟨S2x4096x8192, .bf16⟩
  | .hbm, ⟨4, _⟩ => ⟨S1x8192, .f32⟩
  | .hbm, ⟨5, _⟩ => ⟨S1024x8x8192, .bf16⟩
  | .hbm, ⟨6, _⟩ => ⟨S2x4096x1024, .fp8e4m3⟩
  | .hbm, ⟨7, _⟩ => ⟨S2x1x4096, .f32⟩
  | .local _ .vmem, ⟨0, _⟩ => ⟨S2x4096x1024, .bf16⟩
  | .local _ .vmem, ⟨1, _⟩ => ⟨S1024x8192, .fp8e4m3⟩
  | .local _ .vmem, ⟨2, _⟩ => ⟨S1x8192, .f32⟩
  | .local _ .vmem, ⟨3, _⟩ => ⟨S2x4096x8192, .bf16⟩
  | .local _ .vmem, ⟨4, _⟩ => ⟨S1024x8x8192, .bf16⟩
  | .local _ .vmem, ⟨5, _⟩ => ⟨S2x4096x1024, .fp8e4m3⟩
  | .local _ .vmem, ⟨6, _⟩ => ⟨S2x1x4096, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/- THE SCALE'S EXPONENT over the extended reals. For a row's largest magnitude `a`, the kernel finds the exponent by counting
   which of the powers of two 2^-126 ... 2^127 the number `t = a * c` reaches, and builds the power from a word; the
   reference takes floor(log t / log 2) + 1 and raises 2 to it. Here: both are one integer, `expo a`, and both powers are
   the real power of two at it. -/
module

public import Idealize.ShloMosaic.PureOps.Ideal
public import Idealize.ShloMosaic.PureOps.Ideal.Laws
public import Idealize.ShloMosaic.Lib.WordSum

@[expose] public section

set_option maxRecDepth 16384

noncomputable section

namespace Cert.Proof.Exponent

open Idealize.ShloMosaic

/-- The bounds of the normal numbers, and the constant 1/448 as a word denotes it. -/
abbrev tiny : EReal := Ideal.ofBits .f32 0x00800000#32
abbrev huge : EReal := Ideal.ofBits .f32 0x7F7FFFFF#32
abbrev inv448 : EReal := Ideal.ofBits .f32 0x3B124925#32

/-- The integer logarithm to base two: floor(log r / log 2). -/
def lg (r : ℝ) : ℤ := ⌊Real.log r * (1 / Real.log 2)⌋

/-- The power 2^z is at most `r` exactly when `z` is at most the integer logarithm of `r`. -/
theorem zpow_le_iff {r : ℝ} (h : 0 < r) (z : ℤ) : (2 : ℝ) ^ z ≤ r ↔ z ≤ lg r := by
  have hl : 0 < Real.log 2 := Real.log_pos (by norm_num)
  rw [lg, Int.le_floor, mul_one_div, le_div_iff₀ hl, ← Real.log_zpow, Real.log_le_log_iff (by positivity) h]

/-- The exponent of a row whose largest magnitude is `a`: one more than the integer logarithm of `a / 448` where that is
    a normal number, and 0 elsewhere. -/
def expo (a : EReal) : ℤ :=
  if a = 0 then 0 else if tiny ≤ a * inv448 ∧ a * inv448 ≤ huge then lg (a * inv448).toReal + 1 else 0

/-- The scale 2^e and its inverse 2^-e. -/
def scaleOf (a : EReal) : EReal := (((2 : ℝ) ^ expo a : ℝ) : EReal)
def invOf (a : EReal) : EReal := (((2 : ℝ) ^ (-expo a) : ℝ) : EReal)

/-- A word with sign 0, exponent field `n` (neither 0 nor 255) and fraction field `r` is (2^23 + r) * 2^(n - 150). -/
theorem normal_word (b : BitVec 32) (n r : ℕ)
    (h : b.extractLsb' 31 1 = 0#1 ∧ (b.extractLsb' 23 8).toNat = n ∧ (b.extractLsb' 0 23).toNat = r)
    (h0 : n ≠ 0) (h1 : n ≠ 255) :
    Ideal.ofBits .f32 b = ((((2 ^ 23 + r : ℕ) : ℝ) * (2 : ℝ) ^ ((n : ℤ) - 127 - 23) : ℝ) : EReal) := by
  obtain ⟨f1, f2, f3⟩ := h
  show Ideal.ieee 8 23 b = _
  unfold Ideal.ieee
  simp only [Nat.reduceAdd]
  rw [f1, f2, f3, if_neg (by omega), if_neg (by omega)]
  simp

theorem tiny_eq : tiny = (((2 : ℝ) ^ (-126 : ℤ) : ℝ) : EReal) := by
  rw [tiny, normal_word _ 1 0 (by decide) (by decide) (by decide)]
  congr 1; norm_num

theorem huge_eq : huge = (((2 - (2 : ℝ) ^ (-23 : ℤ)) * 2 ^ (127 : ℤ) : ℝ) : EReal) := by
  rw [huge, normal_word _ 254 8388607 (by decide) (by decide) (by decide)]
  congr 1; norm_num

theorem two_eq : Ideal.ofBits .f32 0x40000000#32 = ((2 : ℝ) : EReal) := by
  rw [normal_word _ 128 0 (by decide) (by decide) (by decide)]
  congr 1; norm_num

theorem one_eq : Ideal.ofBits .f32 0x3F800000#32 = ((1 : ℝ) : EReal) := by
  rw [normal_word _ 127 0 (by decide) (by decide) (by decide)]
  congr 1; norm_num

/-- The fields of the word whose exponent field is `n`: sign 0, exponent `n`, fraction 0. -/
theorem fields : ∀ n : Fin 255,
    (IntOp.shli .vector (BitVec.ofNat 32 n.val) 23#32).extractLsb' 31 1 = 0#1
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- The word whose exponent field is `n`, 1 ≤ n ≤ 254, is the power 2^(n - 127). -/
theorem power_word (n : ℕ) (h1 : 1 ≤ n) (h2 : n ≤ 254) :
    Ideal.ofBits .f32 (IntOp.shli .vector (BitVec.ofNat 32 n) 23#32) = (((2 : ℝ) ^ ((n : ℤ) - 127) : ℝ) : EReal) := by
  rw [normal_word _ n 0 (fields ⟨n, by omega⟩) (by omega) (by omega)]
  congr 1
  rw [show (((2 ^ 23 + 0 : ℕ) : ℝ)) = (2 : ℝ) ^ (23 : ℤ) by norm_num, ← zpow_add₀ (by norm_num)]
  congr 1
  ring

/-- The two halves of an exponent `n - 200` are words whose exponent fields are in range. -/
theorem halves : ∀ n : Fin 401,
    IntOp.addi (IntOp.shrsi .vector (BitVec.ofInt 32 ((n.val : ℤ) - 200)) 1#32) 127#32
        = BitVec.ofNat 32 (((n.val : ℤ) - 200) / 2 + 127).toNat
      ∧ IntOp.addi (IntOp.subi (BitVec.ofInt 32 ((n.val : ℤ) - 200)) (IntOp.shrsi .vector (BitVec.ofInt 32 ((n.val : ℤ) - 200)) 1#32)) 127#32
        = BitVec.ofNat 32 (((n.val : ℤ) - 200) - ((n.val : ℤ) - 200) / 2 + 127).toNat := by
  decide +kernel

/-- The kernel's power of an exponent word: the product of the powers of its two halves. -/
def ldexpOne (e : BitVec 32) : EReal :=
  Ideal.ofBits .f32 (IntOp.shli .vector (IntOp.addi (IntOp.shrsi .vector e 1#32) 127#32) 23#32)
    * Ideal.ofBits .f32 (IntOp.shli .vector (IntOp.addi (IntOp.subi e (IntOp.shrsi .vector e 1#32)) 127#32) 23#32)

/-- It is the real power of two. -/
theorem ldexpOne_eq (k : ℤ) (h1 : -200 ≤ k) (h2 : k ≤ 200) :
    ldexpOne (BitVec.ofInt 32 k) = (((2 : ℝ) ^ k : ℝ) : EReal) := by
  obtain ⟨a, b⟩ := halves ⟨(k + 200).toNat, by omega⟩
  dsimp only at a b
  have hk : (((k + 200).toNat : ℕ) : ℤ) - 200 = k := by omega
  rw [hk] at a b
  unfold ldexpOne
  rw [a, b, power_word _ (by omega) (by omega), power_word _ (by omega) (by omega), ← EReal.coe_mul,
    ← zpow_add₀ (by norm_num)]
  congr 2
  omega

theorem log_bounds {t : ℝ} (h1 : (2 : ℝ) ^ (-126 : ℤ) ≤ t) (h2 : t ≤ (2 - (2 : ℝ) ^ (-23 : ℤ)) * 2 ^ (127 : ℤ)) :
    0 < t ∧ -126 ≤ lg t ∧ lg t ≤ 127 := by
  have h0 : 0 < t := lt_of_lt_of_le (by positivity) h1
  refine ⟨h0, ?_, ?_⟩
  · exact (zpow_le_iff h0 _).1 h1
  · have h : ¬((2 : ℝ) ^ (128 : ℤ) ≤ t) := not_le.2 (lt_of_le_of_lt h2 (by norm_num))
    rw [zpow_le_iff h0] at h
    omega

/-- `t` inside the normal numbers is a real number with bounds. -/
theorem real_of_bounds {t : EReal} (h : tiny ≤ t ∧ t ≤ huge) :
    ∃ r : ℝ, t = (r : EReal) ∧ (2 : ℝ) ^ (-126 : ℤ) ≤ r ∧ r ≤ (2 - (2 : ℝ) ^ (-23 : ℤ)) * 2 ^ (127 : ℤ) := by
  obtain ⟨h1, h2⟩ := h
  rw [tiny_eq] at h1
  rw [huge_eq] at h2
  induction t with
  | bot => exact absurd h1 (not_le.2 (EReal.bot_lt_coe _))
  | top => exact absurd h2 (not_le.2 (EReal.coe_lt_top _))
  | coe r => exact ⟨r, rfl, EReal.coe_le_coe_iff.1 h1, EReal.coe_le_coe_iff.1 h2⟩

theorem expo_bounds (a : EReal) : -125 ≤ expo a ∧ expo a ≤ 128 := by
  unfold expo
  split_ifs with h0 h
  · omega
  · obtain ⟨r, hr, h1, h2⟩ := real_of_bounds h
    rw [hr, EReal.toReal_coe]
    have := log_bounds h1 h2
    omega
  · omega

/-! ## The kernel's side -/

/-- Whether `t` reaches the power number `i`, as the kernel adds it up. -/
def reached (t : EReal) (i : BitVec 32) : BitVec 32 :=
  Scalar.select (IntOp.andi (IntOp.cmpi .slt i 254#32)
    (Ideal.cmp .oge t (Ideal.ofBits .f32 (IntOp.shli .vector (IntOp.addi i 1#32) 23#32)))) 1#32 0#32

theorem slt_254 : ∀ i : Fin 256, IntOp.cmpi .slt (BitVec.ofNat 32 i.val) 254#32 = BitVec.ofBool (decide (i.val < 254)) := by
  decide +kernel

theorem succ_word : ∀ i : Fin 256, IntOp.addi (BitVec.ofNat 32 i.val) 1#32 = BitVec.ofNat 32 (i.val + 1) := by
  decide +kernel

/-- A number between the bounds reaches exactly the powers up to its integer logarithm. -/
theorem reached_eq {t : ℝ} (h1 : (2 : ℝ) ^ (-126 : ℤ) ≤ t) (h2 : t ≤ (2 - (2 : ℝ) ^ (-23 : ℤ)) * 2 ^ (127 : ℤ)) (i : Fin 256) :
    reached (t : EReal) (BitVec.ofNat 32 i.val) = if (i.val : ℤ) < lg t + 127 then 1#32 else 0#32 := by
  obtain ⟨h0, hl, hu⟩ := log_bounds h1 h2
  unfold reached
  rw [slt_254, succ_word]
  by_cases hi : i.val < 254
  · rw [power_word _ (by omega) (by omega)]
    have key : ((((2 : ℝ) ^ (((i.val + 1 : ℕ) : ℤ) - 127) : ℝ) : EReal) ≤ (t : EReal)) ↔ (i.val : ℤ) < lg t + 127 := by
      rw [EReal.coe_le_coe_iff, zpow_le_iff h0]
      push_cast
      omega
    by_cases hr : (i.val : ℤ) < lg t + 127
    · rw [if_pos hr]
      simp only [Ideal.cmp, hi, key.2 hr, decide_true]
      rfl
    · rw [if_neg hr]
      simp only [Ideal.cmp, hi, mt key.1 hr, decide_true, decide_false]
      rfl
  · rw [if_neg (by omega)]
    simp only [hi, decide_false]
    unfold Scalar.select
    rw [if_neg]
    generalize Ideal.cmp _ _ _ = w
    revert w
    decide

/-- The number of powers reached. -/
theorem count_eq {t : ℝ} (h1 : (2 : ℝ) ^ (-126 : ℤ) ≤ t) (h2 : t ≤ (2 - (2 : ℝ) ^ (-23 : ℤ)) * 2 ^ (127 : ℤ)) :
    ∑ i : Fin 256, reached (t : EReal) (BitVec.ofNat 32 i.val) = BitVec.ofNat 32 (lg t + 127).toNat := by
  obtain ⟨h0, hl, hu⟩ := log_bounds h1 h2
  have hc : ∀ n : Fin 256, (∑ i : Fin 256, if i.val < n.val then (1#32 : BitVec 32) else 0#32) = BitVec.ofNat 32 n.val := by
    decide +kernel
  rw [← hc ⟨(lg t + 127).toNat, by omega⟩]
  refine Finset.sum_congr rfl fun i _ => ?_
  rw [reached_eq h1 h2 i]
  refine if_congr ?_ rfl rfl
  dsimp only
  omega

theorem sub_126 : ∀ n : Fin 256, IntOp.subi (BitVec.ofNat 32 n.val) 126#32 = BitVec.ofInt 32 ((n.val : ℤ) - 126) := by
  decide +kernel

theorem and_ge_le (x y z : EReal) :
    IntOp.andi (Ideal.cmp .oge x y) (Ideal.cmp .ole x z) = BitVec.ofBool (decide (y ≤ x ∧ x ≤ z)) := by
  unfold Ideal.cmp
  by_cases h1 : y ≤ x <;> by_cases h2 : x ≤ z <;> simp [h1, h2] <;> rfl

/-- The kernel's exponent word of a row whose largest magnitude is `a`. -/
def kernelExpo (a : EReal) : BitVec 32 :=
  Scalar.select (Ideal.cmp .oeq a (Ideal.ofBits .f32 0x00000000#32)) 0#32
    (Scalar.select (IntOp.andi (Ideal.cmp .oge (a * inv448) tiny) (Ideal.cmp .ole (a * inv448) huge))
      (IntOp.subi (∑ i : Fin 256, reached (a * inv448) (BitVec.ofNat 32 i.val)) 126#32) 0#32)

theorem kernelExpo_eq (a : EReal) : kernelExpo a = BitVec.ofInt 32 (expo a) := by
  unfold kernelExpo expo
  rw [Ideal.ofBits_zero_f32, and_ge_le]
  by_cases h0 : a = 0
  · simp only [h0, Ideal.cmp, decide_true, if_true]; rfl
  · rw [if_neg h0]
    simp only [h0, Ideal.cmp, decide_false]
    show Scalar.select _ _ _ = _
    by_cases h : tiny ≤ a * inv448 ∧ a * inv448 ≤ huge
    · obtain ⟨r, hr, h1, h2⟩ := real_of_bounds h
      rw [if_pos h, decide_eq_true h, hr, count_eq h1 h2, EReal.toReal_coe]
      obtain ⟨_, hl, hu⟩ := log_bounds h1 h2
      show IntOp.subi _ _ = _
      have := sub_126 ⟨(lg r + 127).toNat, by omega⟩
      dsimp only at this
      rw [this]
      congr 1
      omega
    · rw [if_neg h, decide_eq_false h]; rfl

/-- The kernel's scale and inverse scale are the real powers. -/
theorem kernelScale (a : EReal) : ldexpOne (kernelExpo a) = scaleOf a := by
  have := expo_bounds a
  rw [kernelExpo_eq, ldexpOne_eq _ (by omega) (by omega)]; rfl

theorem kernelInv (a : EReal) : ldexpOne (IntOp.subi 0#32 (kernelExpo a)) = invOf a := by
  have := expo_bounds a
  have e : IntOp.subi 0#32 (BitVec.ofInt 32 (expo a)) = BitVec.ofInt 32 (-expo a) := by
    show 0#32 - BitVec.ofInt 32 (expo a) = _
    rw [BitVec.ofInt_neg]; simp
  rw [kernelExpo_eq, e, ldexpOne_eq _ (by omega) (by omega)]; rfl

/-! ## The reference's side -/

/-- The reference's exponent of a row whose largest magnitude is `a`. -/
def refExpo (a : EReal) : EReal :=
  Scalar.select (Ideal.cmp .oeq a (Ideal.ofBits .f32 0x00000000#32)) (Ideal.ofBits .f32 0x00000000#32)
    (Scalar.select (IntOp.andi (Ideal.cmp .oge (a * inv448) tiny) (Ideal.cmp .ole (a * inv448) huge))
      (Ideal.liftRound Int.floor (Ideal.div (Ideal.log (a * inv448)) (Ideal.log (Ideal.ofBits .f32 0x40000000#32)))
        + Ideal.ofBits .f32 0x3F800000#32) (Ideal.ofBits .f32 0x00000000#32))

theorem floor_log {r : ℝ} (h0 : 0 < r) :
    Ideal.liftRound Int.floor (Ideal.div (Ideal.log (r : EReal)) (Ideal.log ((2 : ℝ) : EReal))) = ((lg r : ℝ) : EReal) := by
  have hl2 : Real.log 2 ≠ 0 := (Real.log_pos (by norm_num)).ne'
  rw [Ideal.log_coe, Ideal.log_coe, if_neg (not_le.2 h0), if_neg (by norm_num), Ideal.div_coe hl2, ← EReal.coe_mul,
    Ideal.liftRound_coe]
  rfl

theorem refExpo_eq (a : EReal) : refExpo a = ((expo a : ℝ) : EReal) := by
  unfold refExpo expo
  rw [Ideal.ofBits_zero_f32, and_ge_le]
  by_cases h0 : a = 0
  · simp only [h0, Ideal.cmp, decide_true, if_true]
    show (0 : EReal) = _
    simp
  · rw [if_neg h0]
    simp only [h0, Ideal.cmp, decide_false]
    show Scalar.select _ _ _ = _
    by_cases h : tiny ≤ a * inv448 ∧ a * inv448 ≤ huge
    · obtain ⟨r, hr, h1, h2⟩ := real_of_bounds h
      obtain ⟨h0', hl, hu⟩ := log_bounds h1 h2
      rw [if_pos h, decide_eq_true h, hr, EReal.toReal_coe, two_eq, floor_log h0', one_eq, ← EReal.coe_add]
      show ((_ : ℝ) : EReal) = _
      push_cast
      rfl
    · rw [if_neg h, decide_eq_false h]
      show (0 : EReal) = _
      simp

theorem pow_two (k : ℤ) : Ideal.pow ((2 : ℝ) : EReal) ((k : ℝ) : EReal) = (((2 : ℝ) ^ k : ℝ) : EReal) := by
  rw [Ideal.pow_coe_coe]
  congr 1
  exact Real.rpow_intCast 2 k

/-- The reference's scale and inverse scale are the same real powers. -/
theorem refScale (a : EReal) : Ideal.pow (Ideal.ofBits .f32 0x40000000#32) (refExpo a) = scaleOf a := by
  rw [refExpo_eq, two_eq, pow_two]; rfl

theorem refInv (a : EReal) :
    Ideal.pow (Ideal.ofBits .f32 0x40000000#32) (Ideal.ofBits .f32 0x00000000#32 - refExpo a) = invOf a := by
  rw [refExpo_eq, two_eq, Ideal.ofBits_zero_f32, zero_sub, ← EReal.coe_neg, ← Int.cast_neg, pow_two]; rfl

end Cert.Proof.Exponent

end
-- ==== Proof.Rows.lean ====
/- ONE TOKEN'S ROW over the extended reals: its largest magnitude, its codes, and one element of the layer's result. Both
   programs' results are these functions of the arguments' rows and columns. -/
module

public import proofs.«01_k».proof.Proof.Exponent

@[expose] public section

noncomputable section

namespace Cert.Proof.Rows

open Idealize.ShloMosaic Cert.Proof.Exponent

/-- The largest magnitude of a row. -/
def amax (x : Fin 1024 → EReal) : EReal :=
  Finset.univ.fold max (Ideal.ofBits .f32 0xFF800000#32) fun k => max (x k) (-(x k))

/-- The row's scale, a power of two. -/
def scale (x : Fin 1024 → EReal) : EReal := scaleOf (amax x)

/-- The row's code number `k`: the element times the inverse scale, clipped to [-448, 448]. -/
def code (x : Fin 1024 → EReal) (k : Fin 1024) : EReal :=
  min (Ideal.ofBits .f32 0x43E00000#32) (max (Ideal.ofBits .f32 0xC3E00000#32) (x k * invOf (amax x)))

/-- One element of the layer's result: the codes' dot product with a weight column, times the row's scale, times the
    column's scale, plus the residual. -/
def layer (x w : Fin 1024 → EReal) (ws r : EReal) : EReal :=
  (∑ k : Fin 1024, code x k * w k) * scale x * ws + r

end Cert.Proof.Rows

end
-- ==== Proof.Results.lean ====
/- THE THREE RESULT ARRAYS over the extended reals, as functions of the four argument arrays. Token `t` of batch entry `b` is
   row `4096 b + t`; the results are laid out eight rows to a group, the scales along the last axis. -/
module

public import proofs.«01_k».proof.Proof.Rows
public import Idealize.ShloMosaic.Lib.Pointwise

@[expose] public section

noncomputable section

namespace Cert.Proof.Results

open Idealize.ShloMosaic Cert.Proof.Rows

variable (x : (⟨3, ![2, 4096, 1024]⟩ : Shape).Idx → EReal) (w : (⟨2, ![1024, 8192]⟩ : Shape).Idx → EReal)
  (ws : (⟨1, ![8192]⟩ : Shape).Idx → EReal) (res : (⟨3, ![2, 4096, 8192]⟩ : Shape).Idx → EReal)

/-- The batch entry of row `8 a + q`, -/
def batch (a : Fin 1024) (q : Fin 8) : Fin 2 := ⟨(8 * a.val + q.val) / 4096, by omega⟩

/-- and its token. -/
def token (a : Fin 1024) (q : Fin 8) : Fin 4096 := ⟨(8 * a.val + q.val) % 4096, by omega⟩

/-- A token's row. -/
def tokenRow (b : Fin 2) (t : Fin 4096) : Fin 1024 → EReal := fun k => x (ix3 b t k)

/-- The layer's result at row `8 a + q` and column `n`. -/
def resultAt (a : Fin 1024) (q : Fin 8) (n : Fin 8192) : EReal :=
  layer (tokenRow x (batch a q) (token a q)) (fun k => w (ix2 k n)) (ws (ix1 n)) (res (ix3 (batch a q) (token a q) n))

/-- The layer's result. -/
def result : (⟨3, ![1024, 8, 8192]⟩ : Shape).Idx → EReal := fun i => resultAt x w ws res (i 0) (i 1) (i 2)

/-- The codes. -/
def codes : (⟨3, ![2, 4096, 1024]⟩ : Shape).Idx → EReal := fun i => code (tokenRow x (i 0) (i 1)) (i 2)

/-- The scales. -/
def scales : (⟨3, ![2, 1, 4096]⟩ : Shape).Idx → EReal := fun i => scale (tokenRow x (i 0) (i 2))

end Cert.Proof.Results

end
-- ==== Proof.KernelRows.lean ====
/- THE KERNEL'S PAYLOADS read at an index: what each store of the body writes, as a function of the row it belongs to. -/
module

public import proofs.«01_k».proof.Proof.Rows
public import proofs.«01_k».proof.Proof.Gen.KernelIdeal.Skeleton
public import Idealize.ShloMosaic.Lib.Pointwise

@[expose] public section

set_option maxRecDepth 16384

noncomputable section

namespace Cert.KernelIdeal.Value

open Idealize.ShloMosaic Cert.KernelIdeal Cert.KernelIdeal.Gen Cert.Proof.Exponent Cert.Proof.Rows

/-- The exponent word of a row. -/
theorem pay4_apply (x : Vec Ideal S1x512x1024 .bf16) (r : Fin 512) (z : Fin 1) :
    k0_pay4 (F := Ideal) x (ix2 r z) = kernelExpo (amax fun k => x (ix3 0 r k)) := by
  pointwise [k0_pay4, k0_pay3]
  have hf (f : Fin 256 → BitVec 32) : Finset.fold IntOp.addi (0#32) f Finset.univ = ∑ i, f i := (Finset.sum_eq_fold _ _).symm
  rw [hf]
  unfold kernelExpo
  rw [Ideal.ofBits_zero_f32]
  have sel (a : EReal) (u v : BitVec 32) : Scalar.select (Ideal.cmp .oeq a 0) u v = if a = 0 then u else v := by
    unfold Ideal.cmp Scalar.select
    by_cases h : a = 0 <;> simp [h]
  rw [sel]
  exact if_congr Iff.rfl rfl rfl

/-- The scale of a row, of any exponent words. -/
theorem pay7_apply (e : IVec S512x1 32) (j : S512x1.Idx) :
    k0_pay7 (F := Ideal) e (shrsi e (broadcast S512x1 1#32)) (addi (shrsi e (broadcast S512x1 1#32)) (broadcast S512x1 127#32)) j = ldexpOne (e j) := by
  rfl

theorem pay8_apply (x : FVec Ideal S512x1024 .f32) (e : IVec S512x1 32) (z : Fin 1) (r : Fin 512) (k : Fin 1024) :
    k0_pay8 (F := Ideal) x e (ix3 z r k)
      = min (Ideal.ofBits .f32 0x43E00000#32) (max (Ideal.ofBits .f32 0xC3E00000#32) (x (ix2 r k) * ldexpOne (IntOp.subi 0#32 (e (ix2 r 0))))) := by
  pointwise [k0_pay8]
  rfl

theorem pay13_apply (v3 : Vec Ideal S1x512x1024 .fp8e4m3) (v5 : Vec Ideal S512x1 .f32) (v10 : Vec Ideal S1024x512 .fp8e4m3) (v14 : Vec Ideal S1x512 .f32) (v18 : Vec Ideal S1x512x512 .bf16) (a : Fin 64) (b : Fin 8) (n : Fin 512) (r : Fin 512) (hr : r.val = 8 * a.val + b.val) :
    k0_pay13 (F := Ideal) v3 v5 v10 v14 v18 (ix3 a b n)
      = (∑ k : Fin 1024, v3 (ix3 0 r k) * v10 (ix2 k n)) * v5 (ix2 r 0) * v14 (ix2 0 n) + v18 (ix3 0 r n) := by
  pointwise [k0_pay13, k0_pay12]
  have e : (⟨a.val * 8 + b.val, by omega⟩ : Fin 512) = r := Fin.ext (by dsimp only; omega)
  rw [e]

theorem pay11_apply (e e' e'' : IVec S512x1 32) (a b : Fin 1) (r : Fin 512) :
    k0_pay11 (F := Ideal) (k0_pay10 e e' e'') (ix3 a b r) = k0_pay7 (F := Ideal) e e' e'' (ix2 r 0) := by
  pointwise [k0_pay11, k0_pay10]

end Cert.KernelIdeal.Value

end
-- ==== Proof.KernelOut.lean ====
/- WHAT THE BODY LEAVES in its three staging buffers at a grid point, read at an index: the codes and the scales of the
   point's 512 rows, and the rows' results, which the body stores in sixteen column chunks of one form. -/
module

public import proofs.«01_k».proof.Proof.KernelRows
public import proofs.«01_k».proof.Proof.Gen.KernelIdeal.Frame
public import Idealize.ShloMosaic.Lib.Pipeline.Value
public import Idealize.ShloMosaic.Lib.Pipeline.ValueKit.Tiles

@[expose] public section

set_option maxRecDepth 16384

noncomputable section

namespace Cert.KernelIdeal.Value

open Idealize.ShloMosaic Cert.KernelIdeal Cert.KernelIdeal.Gen Cert.Proof.Exponent Cert.Proof.Rows

theorem hz2 : (![0, 0] : Fin 2 → Nat) = fun _ => 0 := funext fun a => by fin_cases a <;> rfl
theorem hz3 : (![0, 0, 0] : Fin 3 → Nat) = fun _ => 0 := funext fun a => by fin_cases a <;> rfl

/-! ## The chunks' payloads are one function

The printed body names the payload of each column chunk anew; each is the first chunk's. -/

section
variable {F : FTy → Type} [FloatOps F]
  (v3 : Vec F S1x512x1024 .fp8e4m3) (v5 : Vec F S512x1 .f32) (w : Vec F S1024x512 .fp8e4m3) (s : Vec F S1x512 .f32) (r : Vec F S1x512x512 .bf16)

theorem pay1_eq : k0_pay1 (k0_pay31 (k0_pay12 v3) v5 w) (k0_pay32 s) r = k0_pay13 v3 v5 w s r := rfl
theorem pay2_eq : k0_pay2 (k0_pay12 v3) v5 w s r = k0_pay13 v3 v5 w s r := rfl
theorem pay15_eq : k0_pay15 (k0_pay14 v3 v5 w) s r = k0_pay13 v3 v5 w s r := rfl
theorem pay16_eq : k0_pay16 (k0_pay12 v3) v5 w s r = k0_pay13 v3 v5 w s r := rfl
theorem pay17_eq : k0_pay17 (k0_pay12 v3) v5 w s r = k0_pay13 v3 v5 w s r := rfl
theorem pay18_eq : k0_pay18 (k0_pay12 v3) v5 w s r = k0_pay13 v3 v5 w s r := rfl
theorem pay19_eq : k0_pay19 (k0_pay12 v3) v5 w s r = k0_pay13 v3 v5 w s r := rfl
theorem pay20_eq : k0_pay20 (k0_pay12 v3) v5 w s r = k0_pay13 v3 v5 w s r := rfl
theorem pay21_eq : k0_pay21 (k0_pay12 v3) v5 w s r = k0_pay13 v3 v5 w s r := rfl
theorem pay22_eq : k0_pay22 (k0_pay12 v3) v5 w s r = k0_pay13 v3 v5 w s r := rfl
theorem pay23_eq : k0_pay23 (k0_pay12 v3) v5 w s r = k0_pay13 v3 v5 w s r := rfl
theorem pay26_eq : k0_pay26 (k0_pay24 (k0_pay12 v3) v5 w s) (k0_pay25 r) = k0_pay13 v3 v5 w s r := rfl
theorem pay27_eq : k0_pay27 (k0_pay12 v3) v5 w s r = k0_pay13 v3 v5 w s r := rfl
theorem pay29_eq : k0_pay29 (k0_pay28 (k0_pay12 v3) v5 w s) r = k0_pay13 v3 v5 w s r := rfl
theorem pay30_eq : k0_pay30 (k0_pay12 v3) v5 w s r = k0_pay13 v3 v5 w s r := rfl

end

/-! ## The scales and the codes of the rows -/

/-- The scale payload's row. -/
theorem scale_apply (x : Vec Ideal S1x512x1024 .bf16) (r : Fin 512) (z : Fin 1) :
    k0_pay7 (F := Ideal) (k0_pay4 x) (k0_pay5 x) (k0_pay6 x) (ix2 r z) = scale fun k => x (ix3 0 r k) :=
  (pay7_apply (k0_pay4 x) (ix2 r z)).trans (by rw [pay4_apply, kernelScale]; rfl)

theorem pay9_eq {F : FTy → Type} [FloatOps F] (e e' e'' : IVec S512x1 32) :
    k0_pay9 (F := F) e e' e'' = k0_pay7 e e' e'' := shapeCast_self _ _

/-- The codes payload's row. -/
theorem codes_apply (x : Vec Ideal S1x512x1024 .bf16) (z : Fin 1) (r : Fin 512) (k : Fin 1024) :
    k0_pay8 (F := Ideal) (k0_pay3 x) (k0_pay4 x) (ix3 z r k) = code (fun k => x (ix3 0 r k)) k := by
  rw [pay8_apply, pay4_apply, kernelInv]
  unfold code
  congr 3
  pointwise [k0_pay3]

/-! ## The staging buffers -/

/-- One element of the result block: row `8 y0 + y1`, column `y2`. -/
def blockY (x0 : Vec Ideal S1x512x1024 .bf16) (x1 : Vec Ideal S1024x8192 .fp8e4m3) (x2 : Vec Ideal S1x8192 .f32)
    (x3 : Vec Ideal S1x512x8192 .bf16) (y : S64x8x8192.Idx) : EReal :=
  let r : Fin 512 := ⟨8 * (y 0).val + (y 1).val, by have h0 : (y 0).val < 64 := (y 0).isLt; have h1 : (y 1).val < 8 := (y 1).isLt; omega⟩
  layer (fun k => x0 (ix3 0 r k)) (fun k => x1 (ix2 k (y 2))) (x2 (ix2 0 (y 2))) (x3 (ix3 0 r (y 2)))

/-- A chunk of 512 columns from column `o`: its payload is the result block there. -/
theorem chunk (x0 : Vec Ideal S1x512x1024 .bf16) (x1 : Vec Ideal S1024x8192 .fp8e4m3) (x2 : Vec Ideal S1x8192 .f32)
    (x3 : Vec Ideal S1x512x8192 .bf16) (o ow : ℕ) (how : ow = o)
    (h1 : ∀ a, (![0, ow] : Fin 2 → ℕ) a + S1024x512.size a ≤ S1024x8192.size a)
    (h2 : ∀ a, (![0, o] : Fin 2 → ℕ) a + S1x512.size a ≤ S1x8192.size a)
    (h3 : ∀ a, (![0, 0, o] : Fin 3 → ℕ) a + S1x512x512.size a ≤ S1x512x8192.size a)
    (h4 : ∀ a, (![0, 0, o] : Fin 3 → ℕ) a + S64x8x512.size a ≤ S64x8x8192.size a) (j : S64x8x512.Idx) :
    k0_pay13 (F := Ideal) (k0_pay8 (k0_pay3 x0) (k0_pay4 x0)) (k0_pay9 (F := Ideal) (k0_pay4 x0) (k0_pay5 x0) (k0_pay6 x0))
        (View.ld x1 (Rect.unit (s := S1024x8192) ![0, ow] S1024x512.size h1))
        (View.ld x2 (Rect.unit (s := S1x8192) ![0, o] S1x512.size h2))
        (View.ld x3 (Rect.unit (s := S1x512x8192) ![0, 0, o] S1x512x512.size h3)) j
      = blockY x0 x1 x2 x3 ((Rect.unit (s := S64x8x8192) ![0, 0, o] S64x8x512.size h4).emb j) := by
  subst how
  obtain ⟨a, b, n, rfl⟩ : ∃ (a : Fin 64) (b : Fin 8) (n : Fin 512), j = ix3 a b n := ⟨j 0, j 1, j 2, eq_ix3 j⟩
  have hn : ow + n.val < 8192 := by have := h4 2; have := n.isLt; simp at *; omega
  have hy : (Rect.unit (s := S64x8x8192) ![0, 0, ow] S64x8x512.size h4).emb (ix3 a b n) = ix3 a b ⟨ow + n.val, hn⟩ := by
    funext d
    apply Fin.ext
    refine (Rect.idx_unit_val _ _ _ _ _).trans ?_
    match d with
    | ⟨0, _⟩ => exact Nat.zero_add _
    | ⟨1, _⟩ => exact Nat.zero_add _
    | ⟨2, _⟩ => rfl
  rw [hy, pay13_apply _ _ _ _ _ a b n ⟨8 * a.val + b.val, by omega⟩ rfl, pay9_eq, scale_apply]
  simp only [codes_apply]
  unfold blockY layer
  refine congrArg₂ (· + ·) (congrArg₂ (· * ·) (congrArg₂ (· * ·) (Finset.sum_congr rfl fun k _ => congrArg₂ (· * ·) rfl ?_) rfl) ?_) ?_
  · refine View.ld_unit_apply_of _ _ _ _ _ _ fun d => ?_
    match d with
    | ⟨0, _⟩ => exact (Nat.zero_add _).symm
    | ⟨1, _⟩ => rfl
  · refine View.ld_unit_apply_of _ _ _ _ _ _ fun d => ?_
    match d with
    | ⟨0, _⟩ => exact (Nat.zero_add _).symm
    | ⟨1, _⟩ => rfl
  · refine View.ld_unit_apply_of _ _ _ _ _ _ fun d => ?_
    match d with
    | ⟨0, _⟩ => exact (Nat.zero_add _).symm
    | ⟨1, _⟩ => exact (Nat.zero_add _).symm
    | ⟨2, _⟩ => rfl

section
variable (c : Dev nD) (i : grid0.Coords) (arg2 : Memref sig .tc .vmem S1x512x1024 .bf16) (harg2 : arg2.IsWhole) (arg3 : Memref sig .tc .vmem S1024x8192 .fp8e4m3) (harg3 : arg3.IsWhole) (arg4 : Memref sig .tc .vmem S1x8192 .f32) (harg4 : arg4.IsWhole) (arg5 : Memref sig .tc .vmem S1x512x8192 .bf16) (harg5 : arg5.IsWhole) (arg6 : Memref sig .tc .vmem S64x8x8192 .bf16) (harg6 : arg6.IsWhole) (arg7 : Memref sig .tc .vmem S1x512x1024 .fp8e4m3) (harg7 : arg7.IsWhole) (arg8 : Memref sig .tc .vmem S1x1x512 .f32) (harg8 : arg8.IsWhole) (arg9 : Memref sig .tc .vmem S512x1 .f32) (harg9 : arg9.IsWhole) (hc0 : cond0_0 i)
  (x0 : Vec Ideal S1x512x1024 .bf16) (x1 : Vec Ideal S1024x8192 .fp8e4m3) (x2 : Vec Ideal S1x8192 .f32) (x3 : Vec Ideal S1x512x8192 .bf16)

include harg2 harg3 harg4 harg5

/-- The codes' buffer. -/
theorem out5_apply (z : Fin 1) (r : Fin 512) (k : Fin 1024) :
    out0_A_5 c i arg2 harg2 arg3 harg3 arg4 harg4 arg5 harg5 arg6 harg6 arg7 harg7 arg8 harg8 arg9 harg9 hc0 x0 x1 x2 x3 (ix3 z r k) = code (fun k => x0 (ix3 0 r k)) k := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg2.read_unread, View.ld_unit_zero (S := S1x512x1024) hz3]
  exact codes_apply x0 z r k

/-- The scales' buffer: the scales lie along the last axis. -/
theorem out6_apply (a b : Fin 1) (r : Fin 512) :
    out0_A_6 c i arg2 harg2 arg3 harg3 arg4 harg4 arg5 harg5 arg6 harg6 arg7 harg7 arg8 harg8 arg9 harg9 hc0 x0 x1 x2 x3 (ix3 a b r) = scale fun k => x0 (ix3 0 r k) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg2.read_unread, View.ld_unit_zero (S := S1x512x1024) hz3]
  exact (pay11_apply _ _ _ a b r).trans (scale_apply x0 r 0)

/-- The results' buffer: each of the sixteen stores is a chunk of the result block. -/
theorem out4_apply (y : S64x8x8192.Idx) :
    out0_A_4 c i arg2 harg2 arg3 harg3 arg4 harg4 arg5 harg5 arg6 harg6 arg7 harg7 arg8 harg8 arg9 harg9 hc0 x0 x1 x2 x3 y = blockY x0 x1 x2 x3 y := by
  unfold out0_A_4
  have hcov := cover0_A_4 c i arg2 harg2 arg3 harg3 arg4 harg4 arg5 harg5 arg6 harg6 arg7 harg7 arg8 harg8 arg9 harg9 hc0 x0 x1 x2 x3 y
  have hi : (i 1).val = 0 := by have := (i 1).isLt; have : (i 1).val < 1 := this; omega
  refine View.read_writes_apply_of_pieces _ _ (blockY x0 x1 x2 x3) _ ?_ y hcov
  unfold kernelRun0_A
  dsimp only
  sl_unfold_words
  simp only [View.readAt_eq_ld, harg2.read_unread, harg3.read_unread, harg4.read_unread, harg5.read_unread,
    View.ld_unit_zero (S := S1x512x1024) hz3, View.readCov_unit_zero (S := S1x512x1024) _ hz3,
    View.readCov_unit_zero (S := S512x1) _ hz2, pay1_eq, pay2_eq, pay15_eq, pay16_eq, pay17_eq, pay18_eq, pay19_eq, pay20_eq, pay21_eq, pay22_eq, pay23_eq, pay26_eq, pay27_eq, pay29_eq, pay30_eq]
  simp only [List.forall_mem_cons, List.not_mem_nil, false_imp_iff, implies_true, and_true]
  refine ⟨chunk x0 x1 x2 x3 7680 _ (by rw [hi]; rfl) _ _ _ _,
    chunk x0 x1 x2 x3 7168 _ (by rw [hi]; rfl) _ _ _ _,
    chunk x0 x1 x2 x3 6656 _ (by rw [hi]; rfl) _ _ _ _,
    chunk x0 x1 x2 x3 6144 _ (by rw [hi]; rfl) _ _ _ _,
    chunk x0 x1 x2 x3 5632 _ (by rw [hi]; rfl) _ _ _ _,
    chunk x0 x1 x2 x3 5120 _ (by rw [hi]; rfl) _ _ _ _,
    chunk x0 x1 x2 x3 4608 _ (by rw [hi]; rfl) _ _ _ _,
    chunk x0 x1 x2 x3 4096 _ (by rw [hi]; rfl) _ _ _ _,
    chunk x0 x1 x2 x3 3584 _ (by rw [hi]; rfl) _ _ _ _,
    chunk x0 x1 x2 x3 3072 _ (by rw [hi]; rfl) _ _ _ _,
    chunk x0 x1 x2 x3 2560 _ (by rw [hi]; rfl) _ _ _ _,
    chunk x0 x1 x2 x3 2048 _ (by rw [hi]; rfl) _ _ _ _,
    chunk x0 x1 x2 x3 1536 _ (by rw [hi]; rfl) _ _ _ _,
    chunk x0 x1 x2 x3 1024 _ (by rw [hi]; rfl) _ _ _ _,
    chunk x0 x1 x2 x3 512 _ (by rw [hi]; rfl) _ _ _ _,
    chunk x0 x1 x2 x3 0 _ (by rw [hi]; rfl) _ _ _ _⟩

end

end Cert.KernelIdeal.Value

end
-- ==== Proof.KernelRun.lean ====
/- THE KERNEL'S RUN WITH ITS RESULTS NAMED. Grid point `t` reads and writes rows `512 t …` of the flattened tokens, that is
   512 tokens of batch entry `t / 8`, from token `512 (t % 8)` on; the sixteen points' blocks tile every result array. -/
module

public import proofs.«01_k».proof.Proof.Results
public import proofs.«01_k».proof.Proof.KernelOut
public import proofs.«01_k».proof.Proof.Gen.KernelIdeal.Value
public import Idealize.ShloMosaic.Lib.Claim

@[expose] public section

set_option maxRecDepth 16384

noncomputable section

namespace Cert.KernelIdeal.Value

open Idealize.ShloMosaic Idealize.ShloMosaic.TcCoe Idealize.SL.Sem Cert.KernelIdeal Cert.KernelIdeal.Gen
open Cert.Proof.Exponent Cert.Proof.Rows Cert.Proof.Results

variable (m : (ℓ : Loc nD τ sig) → Buf (Elt Ideal) ℓ) (ρ : Dev nD → PrngReg)

/-! ## Where the blocks lie -/

theorem point_lt : ∀ t : Fin cfg0.N, t.val < 16 := (by decide +kernel : ∀ t : Fin grid0.N, t.val < 16)

theorem index0 : ∀ t : Fin cfg0.N, win0_0.index t (0 : Fin 3) = t.val / 8 ∧ win0_0.index t (1 : Fin 3) = t.val % 8
    ∧ win0_0.index t (2 : Fin 3) = 0 := (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = t.val / 8 ∧ win0_3.index t (1 : Fin 3) = t.val % 8
    ∧ win0_3.index t (2 : Fin 3) = 0 := (by decide +kernel : ∀ t : Fin grid0.N, _)
theorem index4 : ∀ t : Fin cfg0.N, win0_4.index t (0 : Fin 3) = t.val ∧ win0_4.index t (1 : Fin 3) = 0
    ∧ win0_4.index t (2 : Fin 3) = 0 := (by decide +kernel : ∀ t : Fin grid0.N, _)
theorem index5 : ∀ t : Fin cfg0.N, win0_5.index t (0 : Fin 3) = t.val / 8 ∧ win0_5.index t (1 : Fin 3) = t.val % 8
    ∧ win0_5.index t (2 : Fin 3) = 0 := (by decide +kernel : ∀ t : Fin grid0.N, _)
theorem index6 : ∀ t : Fin cfg0.N, win0_6.index t (0 : Fin 3) = t.val / 8 ∧ win0_6.index t (1 : Fin 3) = 0
    ∧ win0_6.index t (2 : Fin 3) = t.val % 8 := (by decide +kernel : ∀ t : Fin grid0.N, _)

/-- Grid point `t`'s batch entry, -/
def pointBatch (t : Fin cfg0.N) : Fin 2 := ⟨t.val / 8, by have := point_lt t; omega⟩

/-- and the token of its row `r`. -/
def pointToken (t : Fin cfg0.N) (r : Fin 512) : Fin 4096 := ⟨t.val % 8 * 512 + r.val, by omega⟩

/-! ## The blocks a point reads -/

/-- The point's block of the tokens. -/
theorem iblk0_apply (c : Dev nD) (t : Fin cfg0.N) (z : Fin 1) (r : Fin 512) (k : Fin 1024) :
    (iblk m c 0 t : Vec Ideal S1x512x1024 .bf16) (ix3 z r k)
      = m ((c : Thread nD τ).loc main_arg0) (ix3 (pointBatch t) (pointToken t r) k) := by
  obtain ⟨e0, e1, e2⟩ := index0 t
  rw [← V_main_arg0 m c]
  show V m c main_arg0 (((cfg0.win 0).blk t).view.emb (ix3 z r k)) = V m c main_arg0 _
  congr 1; funext a; apply Fin.ext
  match a with
  | ⟨0, _⟩ => show win0_0.index t (0 : Fin 3) * 1 + 1 * z.val = t.val / 8; omega
  | ⟨1, _⟩ => show win0_0.index t (1 : Fin 3) * 512 + 1 * r.val = t.val % 8 * 512 + r.val; omega
  | ⟨2, _⟩ => show win0_0.index t (2 : Fin 3) * 1024 + 1 * k.val = k.val; omega

/-- The weights, whole at every point. -/
theorem iblk1_apply (c : Dev nD) (t : Fin cfg0.N) (k : Fin 1024) (n : Fin 8192) :
    (iblk m c 1 t : Vec Ideal S1024x8192 .fp8e4m3) (ix2 k n) = m ((c : Thread nD τ).loc main_arg1) (ix2 k n) := by
  obtain ⟨e0, e1⟩ := index1 t
  rw [← V_main_arg1 m c]
  show V m c main_arg1 (((cfg0.win 1).blk t).view.emb (ix2 k n)) = V m c main_arg1 _
  congr 1; funext a; apply Fin.ext
  match a with
  | ⟨0, _⟩ => show win0_1.index t (0 : Fin 2) * 1024 + 1 * k.val = k.val; omega
  | ⟨1, _⟩ => show win0_1.index t (1 : Fin 2) * 8192 + 1 * n.val = n.val; omega

/-- The columns' scales as one row: the host reshapes the argument. -/
theorem scalesRow_apply (c : Dev nD) (z : Fin 1) (n : Fin 8192) :
    (V m c main_v0 : Vec Ideal S1x8192 .f32) (ix2 z n) = m ((c : Thread nD τ).loc main_arg2) (ix1 n) := by
  entry_read
  pointwise
  first | done | rfl

/-- They are whole at every point. -/
theorem iblk2_apply (c : Dev nD) (t : Fin cfg0.N) (z : Fin 1) (n : Fin 8192) :
    (iblk m c 2 t : Vec Ideal S1x8192 .f32) (ix2 z n) = m ((c : Thread nD τ).loc main_arg2) (ix1 n) := by
  obtain ⟨e0, e1⟩ := index2 t
  rw [← scalesRow_apply m c z n]
  show V m c main_v0 (((cfg0.win 2).blk t).view.emb (ix2 z n)) = V m c main_v0 _
  congr 1; funext a; apply Fin.ext
  match a with
  | ⟨0, _⟩ => show win0_2.index t (0 : Fin 2) * 1 + 1 * z.val = z.val; omega
  | ⟨1, _⟩ => show win0_2.index t (1 : Fin 2) * 8192 + 1 * n.val = n.val; omega

/-- The point's block of the residual. -/
theorem iblk3_apply (c : Dev nD) (t : Fin cfg0.N) (z : Fin 1) (r : Fin 512) (n : Fin 8192) :
    (iblk m c 3 t : Vec Ideal S1x512x8192 .bf16) (ix3 z r n)
      = m ((c : Thread nD τ).loc main_arg3) (ix3 (pointBatch t) (pointToken t r) n) := by
  obtain ⟨e0, e1, e2⟩ := index3 t
  rw [← V_main_arg3 m c]
  show V m c main_arg3 (((cfg0.win 3).blk t).view.emb (ix3 z r n)) = V m c main_arg3 _
  congr 1; funext a; apply Fin.ext
  match a with
  | ⟨0, _⟩ => show win0_3.index t (0 : Fin 3) * 1 + 1 * z.val = t.val / 8; omega
  | ⟨1, _⟩ => show win0_3.index t (1 : Fin 3) * 512 + 1 * r.val = t.val % 8 * 512 + r.val; omega
  | ⟨2, _⟩ => show win0_3.index t (2 : Fin 3) * 8192 + 1 * n.val = n.val; omega

/-! ## The three result arrays of the arguments as launched -/

def resultOf (c : Dev nD) : Vec Ideal S1024x8x8192 .bf16 :=
  result (m ((c : Thread nD τ).loc main_arg0)) (m ((c : Thread nD τ).loc main_arg1))
    (m ((c : Thread nD τ).loc main_arg2)) (m ((c : Thread nD τ).loc main_arg3))

def codesOf (c : Dev nD) : Vec Ideal S2x4096x1024 .fp8e4m3 := codes (m ((c : Thread nD τ).loc main_arg0))

def scalesOf (c : Dev nD) : Vec Ideal S2x1x4096 .f32 := scales (m ((c : Thread nD τ).loc main_arg0))

/-! ## The codes -/

/-- Where the point's block of the codes lies. -/
theorem emb5 (t : Fin cfg0.N) (z : Fin 1) (r : Fin 512) (k : Fin 1024) :
    ((cfg0.win 5).blk t).view.emb (ix3 z r k) = ix3 (pointBatch t) (pointToken t r) k := by
  obtain ⟨e0, e1, e2⟩ := index5 t
  funext a; apply Fin.ext
  match a with
  | ⟨0, _⟩ => show win0_5.index t (0 : Fin 3) * 1 + 1 * z.val = t.val / 8; omega
  | ⟨1, _⟩ => show win0_5.index t (1 : Fin 3) * 512 + 1 * r.val = t.val % 8 * 512 + r.val; omega
  | ⟨2, _⟩ => show win0_5.index t (2 : Fin 3) * 1024 + 1 * k.val = k.val; omega

/-- The point writes its block of the codes. -/
theorem flushed5_eq (c : Dev nD) (t : Fin cfg0.N) :
    (dats m 0 c).flushed 5 t = ((cfg0.win 5).blk t).view.read (Elt Ideal) (codesOf m c) := by
  rw [flushed5_A]
  funext j
  obtain ⟨z, r, k, rfl⟩ : ∃ (z : Fin 1) (r : Fin 512) (k : Fin 1024), j = ix3 z r k := ⟨j 0, j 1, j 2, eq_ix3 j⟩
  show out0_A_5 (F := Ideal) _ _ _ _ _ _ _ _ _ _ _ _ _ _ _ _ _ _ _ _ _ _ _ (ix3 z r k)
    = codesOf m c (((cfg0.win 5).blk t).view.emb (ix3 z r k))
  rw [emb5, out5_apply]
  simp only [iblk0_apply]
  rfl

/-- Every index of the codes is in a point's block. -/
theorem covered5 (i : S2x4096x1024.Idx) :
    ∃ t : Fin cfg0.N, (cfg0.win 5).flush t = true ∧ i ∈ ((cfg0.win 5).blk t).view.set := by
  obtain ⟨b, n, k, rfl⟩ : ∃ (b : Fin 2) (n : Fin 4096) (k : Fin 1024), i = ix3 b n k := ⟨i 0, i 1, i 2, eq_ix3 i⟩
  let t : Fin cfg0.N := (⟨8 * b.val + n.val / 512, by show _ < 16; omega⟩ : Fin 16)
  refine ⟨t, flush0_5 t, ?_⟩
  have h := ((cfg0.win 5).blk t).view.emb_mem_set (ix3 (0 : Fin 1) (⟨n.val % 512, by omega⟩ : Fin 512) k)
  rw [emb5] at h
  refine Eq.mp (congrArg (· ∈ ((cfg0.win 5).blk t).view.set) ?_) h
  funext a; apply Fin.ext
  match a with
  | ⟨0, _⟩ => show (8 * b.val + n.val / 512) / 8 = b.val; omega
  | ⟨1, _⟩ => show (8 * b.val + n.val / 512) % 8 * 512 + n.val % 512 = n.val; omega
  | ⟨2, _⟩ => rfl

/-- The codes after the run. -/
theorem final5 (c : Dev nD) : (dats m 0 c).arrAt 5 cfg0.N = codesOf m c :=
  (dats m 0 c).arrAt_eq_of_cover 5 (codesOf m c) (fun t _ => flushed5_eq m c t) covered5

/-! ## The scales -/

/-- Where the point's block of the scales lies. -/
theorem emb6 (t : Fin cfg0.N) (y z : Fin 1) (r : Fin 512) :
    ((cfg0.win 6).blk t).view.emb (ix3 y z r) = ix3 (pointBatch t) (0 : Fin 1) (pointToken t r) := by
  obtain ⟨e0, e1, e2⟩ := index6 t
  funext a; apply Fin.ext
  match a with
  | ⟨0, _⟩ => show win0_6.index t (0 : Fin 3) * 1 + 1 * y.val = t.val / 8; omega
  | ⟨1, _⟩ => show win0_6.index t (1 : Fin 3) * 1 + 1 * z.val = 0; omega
  | ⟨2, _⟩ => show win0_6.index t (2 : Fin 3) * 512 + 1 * r.val = t.val % 8 * 512 + r.val; omega

/-- The point writes its block of the scales. -/
theorem flushed6_eq (c : Dev nD) (t : Fin cfg0.N) :
    (dats m 0 c).flushed 6 t = ((cfg0.win 6).blk t).view.read (Elt Ideal) (scalesOf m c) := by
  rw [flushed6_A]
  funext j
  obtain ⟨y, z, r, rfl⟩ : ∃ (y z : Fin 1) (r : Fin 512), j = ix3 y z r := ⟨j 0, j 1, j 2, eq_ix3 j⟩
  show out0_A_6 (F := Ideal) _ _ _ _ _ _ _ _ _ _ _ _ _ _ _ _ _ _ _ _ _ _ _ (ix3 y z r)
    = scalesOf m c (((cfg0.win 6).blk t).view.emb (ix3 y z r))
  rw [emb6, out6_apply]
  simp only [iblk0_apply]
  rfl

/-- Every index of the scales is in a point's block. -/
theorem covered6 (i : S2x1x4096.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 4096 := (i 2).isLt
  let t : Fin cfg0.N := (⟨8 * (i 0).val + (i 2).val / 512, by show _ < 16; omega⟩ : Fin 16)
  refine ⟨t, flush0_6 t, ?_⟩
  have h := ((cfg0.win 6).blk t).view.emb_mem_set (ix3 (0 : Fin 1) (0 : Fin 1) (⟨(i 2).val % 512, by omega⟩ : Fin 512))
  rw [emb6] at h
  refine Eq.mp (congrArg (· ∈ ((cfg0.win 6).blk t).view.set) ?_) h
  funext a; apply Fin.ext
  match a with
  | ⟨0, _⟩ => show (8 * (i 0).val + (i 2).val / 512) / 8 = (i 0).val; omega
  | ⟨1, _⟩ => show 0 = (i 1).val; omega
  | ⟨2, _⟩ => show (8 * (i 0).val + (i 2).val / 512) % 8 * 512 + (i 2).val % 512 = (i 2).val; omega

/-- The scales after the run. -/
theorem final6 (c : Dev nD) : (dats m 0 c).arrAt 6 cfg0.N = scalesOf m c :=
  (dats m 0 c).arrAt_eq_of_cover 6 (scalesOf m c) (fun t _ => flushed6_eq m c t) covered6

/-! ## The layer's result -/

/-- The group of eight rows at place `a` of the point's block. -/
def pointGroup (t : Fin cfg0.N) (a : Fin 64) : Fin 1024 := ⟨t.val * 64 + a.val, by have := point_lt t; omega⟩

/-- Where the point's block of the result lies. -/
theorem emb4 (t : Fin cfg0.N) (a : Fin 64) (q : Fin 8) (n : Fin 8192) :
    ((cfg0.win 4).blk t).view.emb (ix3 a q n) = ix3 (pointGroup t a) q n := by
  obtain ⟨e0, e1, e2⟩ := index4 t
  funext b; apply Fin.ext
  match b with
  | ⟨0, _⟩ => show win0_4.index t (0 : Fin 3) * 64 + 1 * a.val = t.val * 64 + a.val; omega
  | ⟨1, _⟩ => show win0_4.index t (1 : Fin 3) * 8 + 1 * q.val = q.val; omega
  | ⟨2, _⟩ => show win0_4.index t (2 : Fin 3) * 8192 + 1 * n.val = n.val; omega

/-- A result block's row `8 a + q` is the result's row `8 (64 t + a) + q`: the same token. -/
theorem block_eq (c : Dev nD) (t : Fin cfg0.N) (a : Fin 64) (q : Fin 8) (n : Fin 8192) :
    blockY (iblk m c 0 t) (iblk m c 1 t) (iblk m c 2 t) (iblk m c 3 t) (ix3 a q n)
      = resultOf m c (ix3 (pointGroup t a) q n) := by
  have ht := point_lt t
  have hb : batch (pointGroup t a) q = pointBatch t :=
    Fin.ext (by show (8 * (t.val * 64 + a.val) + q.val) / 4096 = t.val / 8; omega)
  have hk : token (pointGroup t a) q = pointToken t ⟨8 * a.val + q.val, by omega⟩ :=
    Fin.ext (by show (8 * (t.val * 64 + a.val) + q.val) % 4096 = t.val % 8 * 512 + (8 * a.val + q.val); omega)
  have hr : resultOf m c (ix3 (pointGroup t a) q n) = resultAt (m ((c : Thread nD τ).loc main_arg0))
      (m ((c : Thread nD τ).loc main_arg1)) (m ((c : Thread nD τ).loc main_arg2)) (m ((c : Thread nD τ).loc main_arg3))
      (pointGroup t a) q n := rfl
  rw [hr]
  unfold resultAt blockY tokenRow
  rw [hb, hk]
  simp only [iblk0_apply, ix3_0, ix3_1, ix3_2]
  rw [iblk2_apply, iblk3_apply]
  simp only [iblk1_apply]

/-- The point writes its block of the result. -/
theorem flushed4_eq (c : Dev nD) (t : Fin cfg0.N) :
    (dats m 0 c).flushed 4 t = ((cfg0.win 4).blk t).view.read (Elt Ideal) (resultOf m c) := by
  rw [flushed4_A]
  funext j
  obtain ⟨a, q, n, rfl⟩ : ∃ (a : Fin 64) (q : Fin 8) (n : Fin 8192), j = ix3 a q n := ⟨j 0, j 1, j 2, eq_ix3 j⟩
  show out0_A_4 (F := Ideal) _ _ _ _ _ _ _ _ _ _ _ _ _ _ _ _ _ _ _ _ _ _ _ (ix3 a q n)
    = resultOf m c (((cfg0.win 4).blk t).view.emb (ix3 a q n))
  rw [emb4, out4_apply, block_eq]

/-- Every index of the result is in a point's block. -/
theorem covered4 (i : S1024x8x8192.Idx) :
    ∃ t : Fin cfg0.N, (cfg0.win 4).flush t = true ∧ i ∈ ((cfg0.win 4).blk t).view.set := by
  obtain ⟨g, q, n, rfl⟩ : ∃ (g : Fin 1024) (q : Fin 8) (n : Fin 8192), i = ix3 g q n := ⟨i 0, i 1, i 2, eq_ix3 i⟩
  let t : Fin cfg0.N := (⟨g.val / 64, by show _ < 16; omega⟩ : Fin 16)
  refine ⟨t, flush0_4 t, ?_⟩
  have h := ((cfg0.win 4).blk t).view.emb_mem_set (ix3 (⟨g.val % 64, by omega⟩ : Fin 64) q n)
  rw [emb4] at h
  refine Eq.mp (congrArg (· ∈ ((cfg0.win 4).blk t).view.set) ?_) h
  funext a; apply Fin.ext
  match a with
  | ⟨0, _⟩ => show g.val / 64 * 64 + g.val % 64 = g.val; omega
  | ⟨1, _⟩ => rfl
  | ⟨2, _⟩ => rfl

/-- The result after the run. -/
theorem final4 (c : Dev nD) : (dats m 0 c).arrAt 4 cfg0.N = resultOf m c :=
  (dats m 0 c).arrAt_eq_of_cover 4 (resultOf m c) (fun t _ => flushed4_eq m c t) covered4

/-- The kernel runs, its three result arrays end at the functions of the arguments, the arguments unchanged. -/
theorem run : θ_run defs (onTc (τ := τ) (main (F := Ideal))) ⟨m, fun _ => 0, ρ⟩ fun r => ∀ c : Dev nD,
      r.2.mem ((c : Thread nD τ).loc main_v1_0) = resultOf m c
      ∧ r.2.mem ((c : Thread nD τ).loc main_v1_1) = codesOf m c
      ∧ r.2.mem ((c : Thread nD τ).loc main_v1_2) = scalesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
    (h c).2.2.1.trans (final6 m c), (h c).2.2.2⟩) (run_blocks m ρ)

end Cert.KernelIdeal.Value

end
-- ==== Proof.ReferenceRows.lean ====
/- THE REFERENCE'S PAYLOADS read at an index: what its three stores write, as functions of the row they belong to. -/
module

public import proofs.«01_k».proof.Proof.Rows
public import proofs.«01_k».proof.Proof.Gen.ReferenceIdeal.Skeleton
public import Idealize.ShloMosaic.Lib.Pointwise

@[expose] public section

set_option maxRecDepth 16384

noncomputable section

namespace Cert.ReferenceIdeal.Value

open Idealize.ShloMosaic Cert.ReferenceIdeal Cert.ReferenceIdeal.Gen Cert.Proof.Exponent Cert.Proof.Rows

section Elementwise

variable {s : Shape} (v e : FVec Ideal s .f32) (j : s.Idx) (z c lo hi two one : Ideal .f32)

/-- The exponent's computation at an index, whatever its constants are. -/
theorem exponent_at :
    select (cmpf .oeq v (broadcast s z)) (broadcast s z)
        (select (andi (cmpf .oge (mulf v (broadcast s c)) (broadcast s lo)) (cmpf .ole (mulf v (broadcast s c)) (broadcast s hi)))
          (addf (floor (divf (log (mulf v (broadcast s c))) (log (broadcast s two)))) (broadcast s one)) (broadcast s z)) j
      = Scalar.select (Ideal.cmp .oeq (v j) z) z
          (Scalar.select (IntOp.andi (Ideal.cmp .oge (v j * c) lo) (Ideal.cmp .ole (v j * c) hi))
            (Ideal.liftRound Int.floor (Ideal.div (Ideal.log (v j * c)) (Ideal.log two)) + one) z) := rfl

/-- A power of a constant at an index. -/
theorem power_at : powf (broadcast s two) e j = Ideal.pow two (e j) := rfl

/-- The inverse power at an index. -/
theorem inverse_at : powf (broadcast s two) (subf (broadcast s z) e) j = Ideal.pow two (z - e j) := rfl

end Elementwise

/-- The largest magnitudes, kept as a column. -/
theorem column_apply (x : Vec Ideal S2x4096x1024 .bf16) (b : Fin 2) (t : Fin 4096) (z : Fin 1) :
    shapeCast (α := Ideal .f32) S2x4096x1 (multiReduction .maximumf [2] S2x4096 (absf (k0_pay3 x)) 0xFF800000#32
        reduces_S2x4096x1024_S2x4096 (.inl rfl) rfl) shapeCasts_S2x4096_S2x4096x1 (ix3 b t z)
      = amax fun k => x (ix3 b t k) := by
  pointwise [k0_pay3]
  first | done | rfl

/-- The exponent of a row. -/
theorem pay4_apply (x : Vec Ideal S2x4096x1024 .bf16) (b : Fin 2) (t : Fin 4096) (z : Fin 1) :
    k0_pay4 (F := Ideal) x (ix3 b t z) = refExpo (amax fun k => x (ix3 b t k)) := by
  unfold k0_pay4 refExpo
  exact (exponent_at _ _ _ _ _ _ _ _).trans (by rw [column_apply]; rfl)

/-- The scale of a row. -/
theorem pay5_apply (x : Vec Ideal S2x4096x1024 .bf16) (b : Fin 2) (t : Fin 4096) (z : Fin 1) :
    k0_pay5 (F := Ideal) x (ix3 b t z) = scale fun k => x (ix3 b t k) := by
  unfold scale
  rw [← refScale, ← pay4_apply x b t z]
  unfold k0_pay5
  exact power_at _ _ _

/-- The clipped product at an index, whatever the inverse scales are. -/
theorem clip_apply (x : Vec Ideal S2x4096x1024 .bf16) (v : FVec Ideal S2x4096x1 .f32) (lo hi : Ideal .f32)
    (b : Fin 2) (t : Fin 4096) (k : Fin 1024) :
    truncf .fp8e4m3 (minimumf (broadcast S2x4096x1024 hi) (maximumf (broadcast S2x4096x1024 lo)
        (mulf (k0_pay3 x) (broadcastTo S2x4096x1024 v broadcasts_S2x4096x1_S2x4096x1024)))) bitsLt_fp8e4m3_f32 (ix3 b t k)
      = min hi (max lo (x (ix3 b t k) * v (ix3 b t 0))) := by
  pointwise [k0_pay3]

/-- The codes of a row. -/
theorem pay6_apply (x : Vec Ideal S2x4096x1024 .bf16) (b : Fin 2) (t : Fin 4096) (k : Fin 1024) :
    k0_pay6 (F := Ideal) x (ix3 b t k) = code (fun k => x (ix3 b t k)) k := by
  unfold k0_pay6 code
  refine (clip_apply x _ _ _ b t k).trans ?_
  rw [← refInv, ← pay4_apply x b t 0, inverse_at]
  rfl

/-- The scales as they are stored, along the last axis. -/
theorem pay2_apply (s : FVec Ideal S2x4096x1 .f32) (b : Fin 2) (z : Fin 1) (t : Fin 4096) :
    k0_pay2 (F := Ideal) s (ix3 b z t) = s (ix3 b t 0) := by
  pointwise [k0_pay2]

/-- The results: row `8 a + q` of the flattened tokens is token `t` of batch entry `b`. -/
theorem pay1_apply (x : Vec Ideal S2x4096x1024 .bf16) (w : Vec Ideal S1024x8192 .fp8e4m3) (ws : Vec Ideal S1x8192 .f32)
    (res : Vec Ideal S2x4096x8192 .bf16) (a : Fin 1024) (q : Fin 8) (n : Fin 8192) (b : Fin 2) (t : Fin 4096)
    (h : 4096 * b.val + t.val = 8 * a.val + q.val) :
    k0_pay1 (F := Ideal) (k0_pay5 x) (k0_pay7 x) w (constant S8192x8192 .f32 0x00000000#32) ws res (ix3 a q n)
      = layer (fun k => x (ix3 b t k)) (fun k => w (ix2 k n)) (ws (ix2 0 n)) (res (ix3 b t n)) := by
  pointwise [k0_pay1, k0_pay7]
  have hb : (⟨(a.val * 8 + q.val) / 4096, by omega⟩ : Fin 2) = b := Fin.ext (by dsimp only; omega)
  have ht : (⟨(a.val * 8 + q.val) % 4096, by omega⟩ : Fin 4096) = t := Fin.ext (by dsimp only; omega)
  simp only [hb, ht, pay5_apply, pay6_apply]
  rfl

end Cert.ReferenceIdeal.Value

end
-- ==== Proof.ReferenceRun.lean ====
/- THE REFERENCE'S RUN WITH ITS RESULTS NAMED. The reference has no grid: each of its windows is its whole array. -/
module

public import proofs.«01_k».proof.Proof.Results
public import proofs.«01_k».proof.Proof.ReferenceRows
public import proofs.«01_k».proof.Proof.Gen.ReferenceIdeal.Frame
public import Idealize.ShloMosaic.Lib.Pipeline.Value
public import Idealize.ShloMosaic.Lib.Pipeline.ValueKit.Tiles
public import Idealize.ShloMosaic.Lib.Claim

@[expose] public section

set_option maxRecDepth 16384

noncomputable section

namespace Cert.ReferenceIdeal.Value

open Idealize.ShloMosaic Idealize.ShloMosaic.TcCoe Idealize.SL.Sem Cert.ReferenceIdeal Cert.ReferenceIdeal.Gen
open Cert.Proof.Exponent Cert.Proof.Rows Cert.Proof.Results

theorem hz2 : (![0, 0] : Fin 2 → Nat) = fun _ => 0 := funext fun a => by fin_cases a <;> rfl
theorem hz3 : (![0, 0, 0] : Fin 3 → Nat) = fun _ => 0 := funext fun a => by fin_cases a <;> rfl

section

variable {F : FTy → Type} [FloatOps F]
variable (m : (ℓ : Loc nD τ sig) → Buf (Elt F) ℓ) (ρ : Dev nD → PrngReg)

/-! ## The run, its result arrays as the windows' arrays -/

/-- What the body leaves of output window 4, read through the window's block, is what is written back. -/
theorem flushed4 (c : Dev nD) (t : Fin cfg0.N) :
    (dats m 0 c).flushed 4 t
      = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- What the body leaves of output window 5, read through the window's block, is what is written back. -/
theorem flushed5 (c : Dev nD) (t : Fin cfg0.N) :
    (dats m 0 c).flushed 5 t
      = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- What the body leaves of output window 6, read through the window's block, is what is written back. -/
theorem flushed6 (c : Dev nD) (t : Fin cfg0.N) :
    (dats m 0 c).flushed 6 t
      = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end

variable (m : (ℓ : Loc nD τ sig) → Buf (Elt Ideal) ℓ) (ρ : Dev nD → PrngReg)

/-! ## Each window's block is its array -/

theorem index0 : ∀ t : Fin cfg0.N, win0_0.index t (0 : Fin 3) = 0 ∧ win0_0.index t (1 : Fin 3) = 0 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem index6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb0 (t : Fin cfg0.N) (j : S2x4096x1024.Idx) : ((cfg0.win 0).blk t).view.emb j = j := by
  obtain ⟨e0, e1, e2⟩ := index0 t
  funext a; apply Fin.ext
  match a with
  | ⟨0, _⟩ => show win0_0.index t (0 : Fin 3) * 2 + 1 * (j 0).val = (j 0).val; omega
  | ⟨1, _⟩ => show win0_0.index t (1 : Fin 3) * 4096 + 1 * (j 1).val = (j 1).val; omega
  | ⟨2, _⟩ => show win0_0.index t (2 : Fin 3) * 1024 + 1 * (j 2).val = (j 2).val; omega

theorem emb1 (t : Fin cfg0.N) (j : S1024x8192.Idx) : ((cfg0.win 1).blk t).view.emb j = j := by
  obtain ⟨e0, e1⟩ := index1 t
  funext a; apply Fin.ext
  match a with
  | ⟨0, _⟩ => show win0_1.index t (0 : Fin 2) * 1024 + 1 * (j 0).val = (j 0).val; omega
  | ⟨1, _⟩ => show win0_1.index t (1 : Fin 2) * 8192 + 1 * (j 1).val = (j 1).val; omega

theorem emb2 (t : Fin cfg0.N) (j : S1x8192.Idx) : ((cfg0.win 2).blk t).view.emb j = j := by
  obtain ⟨e0, e1⟩ := index2 t
  funext a; apply Fin.ext
  match a with
  | ⟨0, _⟩ => show win0_2.index t (0 : Fin 2) * 1 + 1 * (j 0).val = (j 0).val; omega
  | ⟨1, _⟩ => show win0_2.index t (1 : Fin 2) * 8192 + 1 * (j 1).val = (j 1).val; omega

theorem emb3 (t : Fin cfg0.N) (j : S2x4096x8192.Idx) : ((cfg0.win 3).blk t).view.emb j = j := by
  obtain ⟨e0, e1, e2⟩ := index3 t
  funext a; apply Fin.ext
  match a with
  | ⟨0, _⟩ => show win0_3.index t (0 : Fin 3) * 2 + 1 * (j 0).val = (j 0).val; omega
  | ⟨1, _⟩ => show win0_3.index t (1 : Fin 3) * 4096 + 1 * (j 1).val = (j 1).val; omega
  | ⟨2, _⟩ => show win0_3.index t (2 : Fin 3) * 8192 + 1 * (j 2).val = (j 2).val; omega

theorem emb4 (t : Fin cfg0.N) (j : S1024x8x8192.Idx) : ((cfg0.win 4).blk t).view.emb j = j := by
  obtain ⟨e0, e1, e2⟩ := index4 t
  funext a; apply Fin.ext
  match a with
  | ⟨0, _⟩ => show win0_4.index t (0 : Fin 3) * 1024 + 1 * (j 0).val = (j 0).val; omega
  | ⟨1, _⟩ => show win0_4.index t (1 : Fin 3) * 8 + 1 * (j 1).val = (j 1).val; omega
  | ⟨2, _⟩ => show win0_4.index t (2 : Fin 3) * 8192 + 1 * (j 2).val = (j 2).val; omega

theorem emb5 (t : Fin cfg0.N) (j : S2x4096x1024.Idx) : ((cfg0.win 5).blk t).view.emb j = j := by
  obtain ⟨e0, e1, e2⟩ := index5 t
  funext a; apply Fin.ext
  match a with
  | ⟨0, _⟩ => show win0_5.index t (0 : Fin 3) * 2 + 1 * (j 0).val = (j 0).val; omega
  | ⟨1, _⟩ => show win0_5.index t (1 : Fin 3) * 4096 + 1 * (j 1).val = (j 1).val; omega
  | ⟨2, _⟩ => show win0_5.index t (2 : Fin 3) * 1024 + 1 * (j 2).val = (j 2).val; omega

theorem emb6 (t : Fin cfg0.N) (j : S2x1x4096.Idx) : ((cfg0.win 6).blk t).view.emb j = j := by
  obtain ⟨e0, e1, e2⟩ := index6 t
  funext a; apply Fin.ext
  match a with
  | ⟨0, _⟩ => show win0_6.index t (0 : Fin 3) * 2 + 1 * (j 0).val = (j 0).val; omega
  | ⟨1, _⟩ => show win0_6.index t (1 : Fin 3) * 1 + 1 * (j 1).val = (j 1).val; omega
  | ⟨2, _⟩ => show win0_6.index t (2 : Fin 3) * 4096 + 1 * (j 2).val = (j 2).val; omega

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_arg1 := by
  funext j; show V m c main_arg1 (((cfg0.win 1).blk t).view.emb j) = V m c main_arg1 j; rw [emb1]

theorem iblk2_eq (c : Dev nD) (t : Fin cfg0.N) : iblk m c 2 t = V m c main_v0 := by
  funext j; show V m c main_v0 (((cfg0.win 2).blk t).view.emb j) = V m c main_v0 j; rw [emb2]

theorem iblk3_eq (c : Dev nD) (t : Fin cfg0.N) : iblk m c 3 t = V m c main_arg3 := by
  funext j; show V m c main_arg3 (((cfg0.win 3).blk t).view.emb j) = V m c main_arg3 j; rw [emb3]

/-- The columns' scales as one row: the host reshapes the argument. -/
theorem scalesRow_apply (c : Dev nD) (z : Fin 1) (n : Fin 8192) :
    (V m c main_v0 : Vec Ideal S1x8192 .f32) (ix2 z n) = m ((c : Thread nD τ).loc main_arg2) (ix1 n) := by
  entry_read
  pointwise
  first | done | rfl

/-! ## What the body leaves -/

section

variable (x0 : Vec Ideal S2x4096x1024 .bf16) (x1 : Vec Ideal S1024x8192 .fp8e4m3) (x2 : Vec Ideal S1x8192 .f32)
  (x3 : Vec Ideal S2x4096x8192 .bf16)

/-- The layer's result. -/
theorem out4_apply (a : Fin 1024) (q : Fin 8) (n : Fin 8192) :
    out0_4 x0 x1 x2 x3 (ix3 a q n)
      = layer (fun k => x0 (ix3 (batch a q) (token a q) k)) (fun k => x1 (ix2 k n)) (x2 (ix2 0 n))
          (x3 (ix3 (batch a q) (token a q) n)) := by
  unfold out0_4 k0_pay8 r0_0 r0_1 r0_2 r0_3 r0_4
  rw [View.canon_unit_zero hz3, View.ld_unit_zero (S := S2x4096x1024) hz3, View.ld_unit_zero (S := S1024x8192) hz2,
    View.ld_unit_zero (S := S1x8192) hz2, View.ld_unit_zero (S := S2x4096x8192) hz3]
  exact pay1_apply x0 x1 x2 x3 a q n _ _
    (by show 4096 * ((8 * a.val + q.val) / 4096) + (8 * a.val + q.val) % 4096 = 8 * a.val + q.val; omega)

/-- The codes. -/
theorem out5_apply (b : Fin 2) (t : Fin 4096) (k : Fin 1024) :
    out0_5 x0 x1 x2 x3 (ix3 b t k) = code (fun k => x0 (ix3 b t k)) k := by
  unfold out0_5 r0_0
  rw [View.canon_unit_zero hz3, View.ld_unit_zero (S := S2x4096x1024) hz3]
  exact pay6_apply x0 b t k

/-- The scales. -/
theorem out6_apply (b : Fin 2) (z : Fin 1) (t : Fin 4096) :
    out0_6 x0 x1 x2 x3 (ix3 b z t) = scale fun k => x0 (ix3 b t k) := by
  unfold out0_6 k0_pay8 r0_0 r0_5
  rw [View.canon_unit_zero hz3, View.ld_unit_zero (S := S2x4096x1024) hz3]
  exact (pay2_apply _ b z t).trans (pay5_apply x0 b t 0)

end

/-! ## The three result arrays of the arguments as launched -/

def resultOf (c : Dev nD) : Vec Ideal S1024x8x8192 .bf16 :=
  result (m ((c : Thread nD τ).loc main_arg0)) (m ((c : Thread nD τ).loc main_arg1))
    (m ((c : Thread nD τ).loc main_arg2)) (m ((c : Thread nD τ).loc main_arg3))

def codesOf (c : Dev nD) : Vec Ideal S2x4096x1024 .fp8e4m3 := codes (m ((c : Thread nD τ).loc main_arg0))

def scalesOf (c : Dev nD) : Vec Ideal S2x1x4096 .f32 := scales (m ((c : Thread nD τ).loc main_arg0))

/-- The one point writes the result. -/
theorem flushed4_eq (c : Dev nD) (p : Fin cfg0.N) :
    (dats m 0 c).flushed 4 p = ((cfg0.win 4).blk p).view.read (Elt Ideal) (resultOf m c) := by
  rw [flushed4, iblk0_eq, iblk1_eq, iblk2_eq, iblk3_eq]
  funext j
  obtain ⟨a, q, n, rfl⟩ : ∃ (a : Fin 1024) (q : Fin 8) (n : Fin 8192), j = ix3 a q n := ⟨j 0, j 1, j 2, eq_ix3 j⟩
  show out0_4 (F := Ideal) _ _ _ _ (ix3 a q n) = resultOf m c (((cfg0.win 4).blk p).view.emb (ix3 a q n))
  rw [emb4, out4_apply, scalesRow_apply]
  have hr : resultOf m c (ix3 a q n) = resultAt (m ((c : Thread nD τ).loc main_arg0))
      (m ((c : Thread nD τ).loc main_arg1)) (m ((c : Thread nD τ).loc main_arg2)) (m ((c : Thread nD τ).loc main_arg3))
      a q n := rfl
  rw [hr, V_main_arg0, V_main_arg1, V_main_arg3]
  rfl

/-- The result after the run. -/
theorem final4 (c : Dev nD) : (dats m 0 c).arrAt 4 cfg0.N = resultOf m c :=
  (dats m 0 c).arrAt_eq_of_cover 4 (resultOf m c) (fun t _ => flushed4_eq m c t) fun i =>
    ⟨(⟨0, by decide⟩ : Fin cfg0.N), flush0_4 _, by
      have h := ((cfg0.win 4).blk (⟨0, by decide⟩ : Fin cfg0.N)).view.emb_mem_set i; rwa [emb4] at h⟩

/-- The one point writes the codes. -/
theorem flushed5_eq (c : Dev nD) (p : Fin cfg0.N) :
    (dats m 0 c).flushed 5 p = ((cfg0.win 5).blk p).view.read (Elt Ideal) (codesOf m c) := by
  rw [flushed5, iblk0_eq, iblk1_eq, iblk2_eq, iblk3_eq]
  funext j
  obtain ⟨b, t, k, rfl⟩ : ∃ (b : Fin 2) (t : Fin 4096) (k : Fin 1024), j = ix3 b t k := ⟨j 0, j 1, j 2, eq_ix3 j⟩
  show out0_5 (F := Ideal) _ _ _ _ (ix3 b t k) = codesOf m c (((cfg0.win 5).blk p).view.emb (ix3 b t k))
  rw [emb5, out5_apply, V_main_arg0]
  rfl

/-- The codes after the run. -/
theorem final5 (c : Dev nD) : (dats m 0 c).arrAt 5 cfg0.N = codesOf m c :=
  (dats m 0 c).arrAt_eq_of_cover 5 (codesOf m c) (fun t _ => flushed5_eq m c t) fun i =>
    ⟨(⟨0, by decide⟩ : Fin cfg0.N), flush0_5 _, by
      have h := ((cfg0.win 5).blk (⟨0, by decide⟩ : Fin cfg0.N)).view.emb_mem_set i; rwa [emb5] at h⟩

/-- The one point writes the scales. -/
theorem flushed6_eq (c : Dev nD) (p : Fin cfg0.N) :
    (dats m 0 c).flushed 6 p = ((cfg0.win 6).blk p).view.read (Elt Ideal) (scalesOf m c) := by
  rw [flushed6, iblk0_eq, iblk1_eq, iblk2_eq, iblk3_eq]
  funext j
  obtain ⟨b, z, t, rfl⟩ : ∃ (b : Fin 2) (z : Fin 1) (t : Fin 4096), j = ix3 b z t := ⟨j 0, j 1, j 2, eq_ix3 j⟩
  show out0_6 (F := Ideal) _ _ _ _ (ix3 b z t) = scalesOf m c (((cfg0.win 6).blk p).view.emb (ix3 b z t))
  rw [emb6, out6_apply, V_main_arg0]
  rfl

/-- The scales after the run. -/
theorem final6 (c : Dev nD) : (dats m 0 c).arrAt 6 cfg0.N = scalesOf m c :=
  (dats m 0 c).arrAt_eq_of_cover 6 (scalesOf m c) (fun t _ => flushed6_eq m c t) fun i =>
    ⟨(⟨0, by decide⟩ : Fin cfg0.N), flush0_6 _, by
      have h := ((cfg0.win 6).blk (⟨0, by decide⟩ : Fin cfg0.N)).view.emb_mem_set i; rwa [emb6] at h⟩

/-- The reference runs, its three result arrays end at the functions of the arguments, the arguments unchanged. -/
theorem run : θ_run defs (onTc (τ := τ) (main (F := Ideal))) ⟨m, fun _ => 0, ρ⟩ fun r => ∀ c : Dev nD,
      r.2.mem ((c : Thread nD τ).loc main_v1_0) = resultOf m c
      ∧ r.2.mem ((c : Thread nD τ).loc main_v1_1) = codesOf m c
      ∧ r.2.mem ((c : Thread nD τ).loc main_v1_2) = scalesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
    (h c).2.2.1.trans (final6 m c), (h c).2.2.2⟩) (run_blocks m ρ)

end Cert.ReferenceIdeal.Value

end
-- ==== Proof.lean ====
module

public import proofs.«01_k».proof.Defs
public import proofs.«01_k».proof.Proof.Gen.Kernel.Frame
public import proofs.«01_k».proof.Proof.KernelRun
public import proofs.«01_k».proof.Proof.ReferenceRun

@[expose] public section

open Idealize.ShloMosaic Idealize.SL.Sem

/-- The kernel and the reference, at the extended reals and from arguments that agree, end with equal results: both programs'
    result arrays are the same three functions of the arguments. -/
theorem Cert.Proof.algebraic : Cert.algebraic_KernelIdeal_ReferenceIdeal
    (hKernelIdeal := Cert.KernelIdeal.Gen.facts) (hReferenceIdeal := Cert.ReferenceIdeal.Gen.facts) := by
  intro m ρ m' ρ' _ hagree
  refine ⟨fun c => Cert.KernelIdeal.Value.resultOf m c, fun c => Cert.KernelIdeal.Value.codesOf m c,
    fun c => Cert.KernelIdeal.Value.scalesOf m c, Cert.KernelIdeal.Value.run m ρ, ?_⟩
  refine (θ_run Cert.ReferenceIdeal.defs _ _).mono (fun r h c => ⟨(h c).1.trans ?_, (h c).2.1.trans ?_,
    (h c).2.2.1.trans ?_, (h c).2.2.2⟩) (Cert.ReferenceIdeal.Value.run m' ρ')
  all_goals obtain ⟨h0, h1, h2, h3⟩ := hagree c
  · unfold Cert.ReferenceIdeal.Value.resultOf Cert.KernelIdeal.Value.resultOf
    rw [h0, h1, h2, h3]
  · unfold Cert.ReferenceIdeal.Value.codesOf Cert.KernelIdeal.Value.codesOf
    rw [h0]
  · unfold Cert.ReferenceIdeal.Value.scalesOf Cert.KernelIdeal.Value.scalesOf
    rw [h0]

/-- Every claim: the three frames, the idealization (which rewrote nothing), and the equality of the results. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Proof.algebraic⟩
